-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x2048x5376 : Shape := ⟨3, ![6, 2048, 5376]⟩
abbrev S6x2048x1 : Shape := ⟨3, ![6, 2048, 1]⟩
abbrev S5376x1536 : Shape := ⟨2, ![5376, 1536]⟩
abbrev S1536 : Shape := ⟨1, ![1536]⟩
abbrev S12288x5376 : Shape := ⟨2, ![12288, 5376]⟩
abbrev S1x12288 : Shape := ⟨2, ![1, 12288]⟩
abbrev S12288x1536 : Shape := ⟨2, ![12288, 1536]⟩
abbrev S1024x5376 : Shape := ⟨2, ![1024, 5376]⟩
abbrev S1x1024 : Shape := ⟨2, ![1, 1024]⟩
abbrev S1024x1536 : Shape := ⟨2, ![1024, 1536]⟩
abbrev S1024x1 : Shape := ⟨2, ![1024, 1]⟩
abbrev S1x1536 : Shape := ⟨2, ![1, 1536]⟩
abbrev S6x2048x1536 : Shape := ⟨3, ![6, 2048, 1536]⟩

abbrev nBuf : Space → Nat
  | .hbm => 8
  | .vmem => 8
  | .smem => 0
  | _ => 0

abbrev bufTy : (tb : Table) → Fin (tcTables nBuf tb) → BufTy
  | .hbm, ⟨0, _⟩ => ⟨S6x2048x5376, .fp8e4m3⟩
  | .hbm, ⟨1, _⟩ => ⟨S6x2048x1, .f32⟩
  | .hbm, ⟨2, _⟩ => ⟨S5376x1536, .fp8e4m3⟩
  | .hbm, ⟨3, _⟩ => ⟨S1536, .f32⟩
  | .hbm, ⟨4, _⟩ => ⟨S12288x5376, .fp8e4m3⟩
  | .hbm, ⟨5, _⟩ => ⟨S1x12288, .f32⟩
  | .hbm, ⟨6, _⟩ => ⟨S12288x1536, .bf16⟩
  | .hbm, ⟨7, _⟩ => ⟨S6x2048x1536, .bf16⟩
  | .local _ .vmem, ⟨0, _⟩ => ⟨S1024x5376, .fp8e4m3⟩
  | .local _ .vmem, ⟨1, _⟩ => ⟨S1024x5376, .fp8e4m3⟩
  | .local _ .vmem, ⟨2, _⟩ => ⟨S1x1024, .f32⟩
  | .local _ .vmem, ⟨3, _⟩ => ⟨S1x1024, .f32⟩
  | .local _ .vmem, ⟨4, _⟩ => ⟨S5376x1536, .fp8e4m3⟩
  | .local _ .vmem, ⟨5, _⟩ => ⟨S1536, .f32⟩
  | .local _ .vmem, ⟨6, _⟩ => ⟨S1024x1536, .bf16⟩
  | .local _ .vmem, ⟨7, _⟩ => ⟨S1024x1536, .bf16⟩
  | _, _ => ⟨S6x2048x5376, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x5376 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5376x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S6x2048x5376 : Shape := ⟨3, ![6, 2048, 5376]⟩
abbrev S6x2048x1 : Shape := ⟨3, ![6, 2048, 1]⟩
abbrev S5376x1536 : Shape := ⟨2, ![5376, 1536]⟩
abbrev S1536 : Shape := ⟨1, ![1536]⟩
abbrev S6x2048x1536 : Shape := ⟨3, ![6, 2048, 1536]⟩
abbrev S1x1x1536 : Shape := ⟨3, ![1, 1, 1536]⟩

abbrev nBuf : Space → Nat
  | .hbm => 5
  | .vmem => 5
  | .smem => 0
  | _ => 0

abbrev bufTy : (tb : Table) → Fin (tcTables nBuf tb) → BufTy
  | .hbm, ⟨0, _⟩ => ⟨S6x2048x5376, .fp8e4m3⟩
  | .hbm, ⟨1, _⟩ => ⟨S6x2048x1, .f32⟩
  | .hbm, ⟨2, _⟩ => ⟨S5376x1536, .fp8e4m3⟩
  | .hbm, ⟨3, _⟩ => ⟨S1536, .f32⟩
  | .hbm, ⟨4, _⟩ => ⟨S6x2048x1536, .bf16⟩
  | .local _ .vmem, ⟨0, _⟩ => ⟨S6x2048x5376, .fp8e4m3⟩
  | .local _ .vmem, ⟨1, _⟩ => ⟨S6x2048x1, .f32⟩
  | .local _ .vmem, ⟨2, _⟩ => ⟨S5376x1536, .fp8e4m3⟩
  | .local _ .vmem, ⟨3, _⟩ => ⟨S1536, .f32⟩
  | .local _ .vmem, ⟨4, _⟩ => ⟨S6x2048x1536, .bf16⟩
  | _, _ => ⟨S6x2048x5376, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x2048x5376 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5376x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2048x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Spec.lean ====
/- What the layer computes over the extended reals, in mathematics and over plain arrays: no program is named here. -/
module

public import Idealize.ShloMosaic.Lib.Pointwise
public import Idealize.ShloMosaic.PureOps.Ideal

@[expose] public section

noncomputable section

open Idealize.ShloMosaic

namespace Cert.Layer

/-- The scaled linear layer: the result at (b, s, n) is the sum over k of `x (b, s, k) * w (k, n)`, times the scale of the
    token (b, s), times the scale of the output channel n. -/
def linear (x : FVec Ideal ⟨3, ![6, 2048, 5376]⟩ .fp8e4m3) (xs : FVec Ideal ⟨3, ![6, 2048, 1]⟩ .f32)
    (w : FVec Ideal ⟨2, ![5376, 1536]⟩ .fp8e4m3) (ws : FVec Ideal ⟨1, ![1536]⟩ .f32) :
    FVec Ideal ⟨3, ![6, 2048, 1536]⟩ .bf16 := fun j =>
  (((∑ k : Fin 5376, (x (ix3 (j 0) (j 1) k) : EReal) * (w (ix2 k (j 2)) : EReal))
    * (xs (ix3 (j 0) (j 1) 0) : EReal)) * (ws (ix1 (j 2)) : EReal) : EReal)

/-- The same layer over 12288 rows, the scales of the rows lying along a row vector: the result at (r, n) is the sum over
    k of `x (r, k) * w (k, n)`, times the scale of row r, times the scale of the output channel n. -/
def linearRows (x : FVec Ideal ⟨2, ![12288, 5376]⟩ .fp8e4m3) (xs : FVec Ideal ⟨2, ![1, 12288]⟩ .f32)
    (w : FVec Ideal ⟨2, ![5376, 1536]⟩ .fp8e4m3) (ws : FVec Ideal ⟨1, ![1536]⟩ .f32) :
    FVec Ideal ⟨2, ![12288, 1536]⟩ .bf16 := fun j =>
  (((∑ k : Fin 5376, (x (ix2 (j 0) k) : EReal) * (w (ix2 k (j 1)) : EReal))
    * (xs (ix2 0 (j 0)) : EReal)) * (ws (ix1 (j 1)) : EReal) : EReal)

end Cert.Layer

end
-- ==== Proof.KernelValue.lean ====
/- The kernel's result array over the extended reals: what one block computes, what the pipeline's output array holds after
   the run, and what the result array holds after the host's last reshape. -/
module

public import proofs.«01_k».proof.Defs
public import proofs.«01_k».proof.Proof.Spec
public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.Layer

variable (m : (ℓ : Loc nD τ sig) → Buf (Elt Ideal) ℓ) (ρ : Dev nD → PrngReg)

/-- The block index of every window at every grid point: the rows of x, the row scales and the rows of the result move
    with the grid coordinate; the weights and their scales are one block. -/
theorem idx : ∀ t : Fin cfg0.N, win0_0.index t = ![(grid0.coords t 0).val, 0] ∧ win0_1.index t = ![0, (grid0.coords t 0).val]
    ∧ win0_2.index t = ![0, 0] ∧ win0_3.index t = ![0] ∧ win0_4.index t = ![(grid0.coords t 0).val, 0] :=
  (by decide +kernel : ∀ t : Fin grid0.N, _)

/-- What one grid point stores, at row r and channel l of its block. -/
theorem pay_apply (x : Vec Ideal S1024x5376 .fp8e4m3) (w : Vec Ideal S5376x1536 .fp8e4m3) (xs : Vec Ideal S1x1024 .f32)
    (ws : Vec Ideal S1536 .f32) (y : S1024x1536.Idx) :
    k0_pay1 (F := Ideal) x w xs ws y
      = (((∑ k : Fin 5376, (x (ix2 (y 0) k) : EReal) * (w (ix2 k (y 1)) : EReal))
        * (xs (ix2 0 (y 0)) : EReal)) * (ws (ix1 (y 1)) : EReal) : EReal) := by
  pointwise [k0_pay1]

/-- After the run the pipeline's output array is the layer over the 12288 rows of the arrays that the pipeline reads. -/
theorem final (c : Dev nD) : (dats m 0 c).arrAt 4 cfg0.N
    = linearRows (V m c main_v0) (V m c main_v1) (m ((c : Thread nD τ).loc main_arg2)) (m ((c : Thread nD τ).loc main_arg3)) := by
  refine (dats m 0 c).arrAt_eq_of_covers 4 _ (by decide +kernel) fun t _ y => ?_
  blk_simp
  rw [after0_4]
  frame_out
  rw [pay_apply]
  simp only [linearRows]
  blk_point [iblk, V_main_arg2, V_main_arg3, idx t]

/-- The pipeline finds x with its two leading axes merged into one. -/
theorem entry_x (c : Dev nD) : V m c main_v0
    = shapeCast S12288x5376 (m ((c : Thread nD τ).loc main_arg0)) shapeCasts_S6x2048x5376_S12288x5376 := by
  simp only [V, V0, hostOps0, List.flatten_cons, List.flatten_nil, List.append_nil]
  rw [StableHlo.after_cons, StableHlo.after_cons, StableHlo.after_nil]
  after_results_steps
  rfl

/-- The pipeline finds the token scales as one row vector. -/
theorem entry_xs (c : Dev nD) : V m c main_v1
    = shapeCast S1x12288 (m ((c : Thread nD τ).loc main_arg1)) shapeCasts_S6x2048x1_S1x12288 := by
  simp only [V, V0, hostOps0, List.flatten_cons, List.flatten_nil, List.append_nil]
  rw [StableHlo.after_cons, StableHlo.after_cons, StableHlo.after_nil]
  after_results_steps
  rfl

/-- After the host's last line the result array is the pipeline's output array with its rows split in two axes. -/
theorem tail (c : Dev nD) : Pipeline.afterTail₀ cfgs (dats m) 0 (V0 m) [hostOps1] c main_v3
    = shapeCast S6x2048x1536 ((dats m 0 c).arrAt 4 cfg0.N) shapeCasts_S12288x1536_S6x2048x1536 := by
  unfold Pipeline.afterTail₀
  simp only [hostOps1, List.flatten_cons, List.flatten_nil, List.append_nil]
  rw [StableHlo.after_cons, StableHlo.after_nil]
  after_results_steps
  exact congrArg (fun z => shapeCast S6x2048x1536 z shapeCasts_S12288x1536_S6x2048x1536)
    (Pipeline.withArrays_arr spec0 winFacts0.arr_inj c (V0 m c) (fun w => (dats m 0 c).arrAt w cfg0.N) 4)

/-- Splitting the rows of the layer over merged rows gives the layer: row 2048 b + s of the one is token (b, s) of the other. -/
theorem linearRows_split (x : FVec Ideal S6x2048x5376 .fp8e4m3) (xs : FVec Ideal S6x2048x1 .f32)
    (w : FVec Ideal S5376x1536 .fp8e4m3) (ws : FVec Ideal S1536 .f32) :
    shapeCast S6x2048x1536 (linearRows (shapeCast S12288x5376 x shapeCasts_S6x2048x5376_S12288x5376)
      (shapeCast S1x12288 xs shapeCasts_S6x2048x1_S1x12288) w ws) shapeCasts_S12288x1536_S6x2048x1536
    = linear x xs w ws := by
  funext j
  have h0 : (j 0).val < 6 := (j 0).isLt
  have h1 : (j 1).val < 2048 := (j 1).isLt
  let r : Fin 12288 := ⟨(j 0).val * 2048 + (j 1).val, by omega⟩
  refine (shapeCast_apply _ _ j (ix2 r (j 2)) (by rw [Shape.rowMajor_val_two, Shape.rowMajor_val_three]; rfl)).trans ?_
  have ex : ∀ k : Fin 5376, shapeCast S12288x5376 x shapeCasts_S6x2048x5376_S12288x5376 (ix2 r k) = x (ix3 (j 0) (j 1) k) :=
    fun k => shapeCast_apply _ _ _ _ (by rw [Shape.rowMajor_val_two, Shape.rowMajor_val_three]; rfl)
  have es : shapeCast S1x12288 xs shapeCasts_S6x2048x1_S1x12288 (ix2 0 r) = xs (ix3 (j 0) (j 1) 0) :=
    shapeCast_apply _ _ _ _ (by
      rw [Shape.rowMajor_val_two, Shape.rowMajor_val_three]
      show ((j 0).val * 2048 + (j 1).val) * 1 + 0 = 0 * 12288 + ((j 0).val * 2048 + (j 1).val)
      omega)
  show (((∑ k : Fin 5376, (shapeCast S12288x5376 x shapeCasts_S6x2048x5376_S12288x5376 (ix2 r k) : EReal) * (w (ix2 k (j 2)) : EReal))
    * (shapeCast S1x12288 xs shapeCasts_S6x2048x1_S1x12288 (ix2 0 r) : EReal)) * (ws (ix1 (j 2)) : EReal) : EReal) = _
  rw [es, Finset.sum_congr rfl fun k _ => by rw [ex k]]
  rfl

/-- The result array after the run is the layer of the argument arrays. -/
theorem result (c : Dev nD) : Pipeline.afterTail₀ cfgs (dats m) 0 (V0 m) [hostOps1] c main_v3
    = linear (m ((c : Thread nD τ).loc main_arg0)) (m ((c : Thread nD τ).loc main_arg1))
        (m ((c : Thread nD τ).loc main_arg2)) (m ((c : Thread nD τ).loc main_arg3)) := by
  rw [tail, final, entry_x, entry_xs, linearRows_split]

/-- The run: every execution ends with the result array at the layer of the arguments. -/
theorem run : θ_run defs (onTc (τ := τ) (main (F := Ideal))) ⟨m, fun _ => 0, ρ⟩ fun r => ∀ c : Dev nD,
      r.2.mem ((c : Thread nD τ).loc main_v3)
        = linear (m ((c : Thread nD τ).loc main_arg0)) (m ((c : Thread nD τ).loc main_arg1))
            (m ((c : Thread nD τ).loc main_arg2)) (m ((c : Thread nD τ).loc main_arg3)) :=
  (θ_run defs _ _).mono (fun _ h c =>
    ((h c).2 main_v3 (Pipeline.mem_restRefs_of main_v3 (by decide) (by decide))).trans (result m c)) (run_main m ρ)

end Cert.KernelIdeal.Hand

end
-- ==== Proof.ReferenceValue.lean ====
/- The reference's result array over the extended reals. -/
module

public import proofs.«01_k».proof.Defs
public import proofs.«01_k».proof.Proof.Spec
public import proofs.«01_k».proof.Proof.Gen.ReferenceIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen Cert.Layer

variable (m : (ℓ : Loc nD τ sig) → Buf (Elt Ideal) ℓ) (ρ : Dev nD → PrngReg)

/-- Every window is one block, the whole array. -/
theorem idx : ∀ t : Fin cfg0.N, win0_0.index t = ![0, 0, 0] ∧ win0_1.index t = ![0, 0, 0]
    ∧ win0_2.index t = ![0, 0] ∧ win0_3.index t = ![0] ∧ win0_4.index t = ![0, 0, 0] :=
  (by decide +kernel : ∀ t : Fin grid0.N, _)

/-- What the reference stores is the layer of what it loads. -/
theorem pay_eq (x : Vec Ideal S6x2048x5376 .fp8e4m3) (w : Vec Ideal S5376x1536 .fp8e4m3) (xs : Vec Ideal S6x2048x1 .f32)
    (ws : Vec Ideal S1536 .f32) (y : S6x2048x1536.Idx) :
    k0_pay1 (F := Ideal) x w xs ws y = linear x xs w ws y := by
  pointwise [k0_pay1, linear]

/-- After the run the result array is the layer of the argument arrays. -/
theorem final (c : Dev nD) : (dats m 0 c).arrAt 4 cfg0.N
    = linear (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  rw [pay_eq]
  simp only [linear]
  blk_point [iblk, V, idx t]

/-- The run: every execution ends with the result array at the layer of the arguments. -/
theorem run : θ_run defs (onTc (τ := τ) (main (F := Ideal))) ⟨m, fun _ => 0, ρ⟩ fun r => ∀ c : Dev nD,
      r.2.mem ((c : Thread nD τ).loc main_v0)
        = linear (m ((c : Thread nD τ).loc main_arg0)) (m ((c : Thread nD τ).loc main_arg1))
            (m ((c : Thread nD τ).loc main_arg2)) (m ((c : Thread nD τ).loc main_arg3)) :=
  (θ_run defs _ _).mono (fun _ h c => ((h c).1 4).trans (final m c)) (run_main m ρ)

end Cert.ReferenceIdeal.Hand

end
-- ==== Proof.lean ====
/- The claim: the three frames, the idealization that rewrote nothing, and the equality of the kernel's result with the
   reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.ReferenceValue
public import Idealize.ShloMosaic.Adequacy
public import Idealize.ShloMosaic.Init

@[expose] public section

noncomputable section

namespace Cert.Proof

open Idealize.ShloMosaic Idealize.SL.Sem Cert.Kernel

/-- Over the extended reals, from memories that agree on the arguments, the kernel and the reference end with equal
    results: both are the layer of the arguments. -/
theorem algebraic : Cert.algebraic_KernelIdeal_ReferenceIdeal := by
  intro m g m' g' _ hagree
  refine ⟨fun c => Cert.Layer.linear (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), ?_, ?_⟩
  · exact (θ_run _ _ _).mono (fun _ h c => ⟨h.1 c, h.2 c⟩)
      (θ_run_and (Cert.KernelIdeal.Hand.run m g) (Cert.KernelIdeal.Gen.unchanged m g))
  · refine (θ_run _ _ _).mono (fun _ h c => ⟨(h.1 c).trans ?_, h.2 c⟩)
      (θ_run_and (Cert.ReferenceIdeal.Hand.run m' g') (Cert.ReferenceIdeal.Gen.unchanged m' g'))
    obtain ⟨e0, e1, e2, e3⟩ := hagree c
    rw [e0, e1, e2, e3]

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
